-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_distances_within_padding [hPre_distances_within_padding : Cert.Pre_distances_within_padding.Facts] (m : (ℓ : Loc Cert.KernelIdeal.nD Cert.KernelIdeal.τ Cert.KernelIdeal.sig) → Buf (Elt Ideal) ℓ) : Prop :=
  ∀ c : Dev Cert.KernelIdeal.nD,
    (Cert.Pre_distances_within_padding.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distances_within_padding [hPre_distances_within_padding : Cert.Pre_distances_within_padding.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distances_within_padding.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_distances_within_padding [hKernelIdeal : Cert.KernelIdeal.Facts] [hPre_distances_within_padding : Cert.Pre_distances_within_padding.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_distances_within_padding m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_distances_within_padding [hReferenceIdeal : Cert.ReferenceIdeal.Facts] [hPre_distances_within_padding : Cert.Pre_distances_within_padding.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distances_within_padding m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_distances_within_padding [hKernelIdeal : Cert.KernelIdeal.Facts] [hReferenceIdeal : Cert.ReferenceIdeal.Facts] [hPre_distances_within_padding : Cert.Pre_distances_within_padding.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_distances_within_padding m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v25)) (v1 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_distances_within_padding : Cert.Pre_distances_within_padding.Facts),
    quiescent_Kernel (hKernel := hKernel)
    ∧ quiescent_KernelIdeal (hKernelIdeal := hKernelIdeal)
    ∧ quiescent_KernelIdeal_pre_distances_within_padding (hKernelIdeal := hKernelIdeal) (hPre_distances_within_padding := hPre_distances_within_padding)
    ∧ quiescent_ReferenceIdeal (hReferenceIdeal := hReferenceIdeal)
    ∧ quiescent_ReferenceIdeal_pre_distances_within_padding (hReferenceIdeal := hReferenceIdeal) (hPre_distances_within_padding := hPre_distances_within_padding)
    ∧ preserves_Kernel_KernelIdeal
    ∧ algebraic_KernelIdeal_ReferenceIdeal_pre_distances_within_padding (hKernelIdeal := hKernelIdeal) (hReferenceIdeal := hReferenceIdeal) (hPre_distances_within_padding := hPre_distances_within_padding)
-- ==== Pre_distances_within_padding.lean ====
abbrev S16x50x128 : Shape := ⟨3, ![16, 50, 128]⟩
abbrev S100000x128 : Shape := ⟨2, ![100000, 128]⟩
abbrev S800x128 : Shape := ⟨2, ![800, 128]⟩
abbrev S_ : Shape := ⟨0, ![]⟩
abbrev S800 : Shape := ⟨1, ![800]⟩
abbrev S800x1 : Shape := ⟨2, ![800, 1]⟩
abbrev S100000 : Shape := ⟨1, ![100000]⟩
abbrev S1x100000 : Shape := ⟨2, ![1, 100000]⟩
abbrev S800x100000 : Shape := ⟨2, ![800, 100000]⟩
abbrev S128x100000 : Shape := ⟨2, ![128, 100000]⟩

class Facts : Prop where
  shapeCasts_S16x50x128_S800x128 : S16x50x128.ShapeCasts S800x128
  reducesTo_S800x128_S800_d1 : S800x128.ReducesTo [1] S800
  h_S_ : 0 < S_.numel
  bcast_S800_S800x1_0 : S800.BroadcastsInDim S800x1 (![0] : Fin 1 → Fin S800x1.rank)
  reducesTo_S100000x128_S100000_d1 : S100000x128.ReducesTo [1] S100000
  bcast_S100000_S1x100000_1 : S100000.BroadcastsInDim S1x100000 (![1] : Fin 1 → Fin S1x100000.rank)
  bcast_S800x1_S800x100000_0_1 : S800x1.BroadcastsInDim S800x100000 (![0, 1] : Fin 2 → Fin S800x100000.rank)
  bcast_S1x100000_S800x100000_0_1 : S1x100000.BroadcastsInDim S800x100000 (![0, 1] : Fin 2 → Fin S800x100000.rank)
  transposes_S100000x128_S128x100000_1_0 : S100000x128.Transposes [1, 0] S128x100000
  bcast_S_S800x100000 : S_.BroadcastsInDim S800x100000 (![] : Fin 0 → Fin S800x100000.rank)
  dot_S800x128_S128x100000_S800x100000_1_0_0_1_n_n_wf : DotDims.WF S800x128 S128x100000 S800x100000 [1] [0] [0] [1] [] []

variable [Facts]

def dot_S800x128_S128x100000_S800x100000_1_0_0_1_n_n : DotDims S800x128 S128x100000 S800x100000 where
  lhsContracting := [1]
  rhsContracting := [0]
  lhsNonContracting := [0]
  rhsNonContracting := [1]
  lhsBatch := []
  rhsBatch := []
  wf := dot_S800x128_S128x100000_S800x100000_1_0_0_1_n_n_wf
def fn {F : FTy → Type} [FloatOps F] (main_arg0 : FVec F S16x50x128 .f32) (main_arg1 : FVec F S100000x128 .f32) : IVec S800x100000 1 :=
  let main_v0 : FVec F S800x128 .f32 := shapeCast S800x128 main_arg0 shapeCasts_S16x50x128_S800x128
  let main_v1 : FVec F S800x128 .f32 := mulf main_v0 main_v0
  let main_cst : FVec F S_ .f32 := constant S_ .f32 0x00000000#32
  let main_v2 : FVec F S800 .f32 := (fun x v => Host.reduceAdd x v reducesTo_S800x128_S800_d1 h_S_) main_v1 main_cst
  let main_v3 : FVec F S800x1 .f32 := broadcastInDim S800x1 ![0] bcast_S800_S800x1_0 main_v2
  let main_v4 : FVec F S100000x128 .f32 := mulf main_arg1 main_arg1
  let main_cst_0 : FVec F S_ .f32 := constant S_ .f32 0x00000000#32
  let main_v5 : FVec F S100000 .f32 := (fun x v => Host.reduceAdd x v reducesTo_S100000x128_S100000_d1 h_S_) main_v4 main_cst_0
  let main_v6 : FVec F S1x100000 .f32 := broadcastInDim S1x100000 ![1] bcast_S100000_S1x100000_1 main_v5
  let main_v7 : FVec F S800x100000 .f32 := broadcastInDim S800x100000 ![0, 1] bcast_S800x1_S800x100000_0_1 main_v3
  let main_v8 : FVec F S800x100000 .f32 := broadcastInDim S800x100000 ![0, 1] bcast_S1x100000_S800x100000_0_1 main_v6
  let main_v9 : FVec F S800x100000 .f32 := addf main_v7 main_v8
  let main_v10 : FVec F S128x100000 .f32 := (transpose S128x100000 [1, 0] · transposes_S100000x128_S128x100000_1_0) main_arg1
  let main_v11 : FVec F S800x100000 .f32 := (fun l r => Host.dotGeneral dot_S800x128_S128x100000_S800x100000_1_0_0_1_n_n none l r) main_v0 main_v10
  let main_cst_1 : FVec F S_ .f32 := constant S_ .f32 0x40000000#32
  let main_v12 : FVec F S800x100000 .f32 := broadcastInDim S800x100000 ![] bcast_S_S800x100000 main_cst_1
  let main_v13 : FVec F S800x100000 .f32 := mulf main_v12 main_v11
  let main_v14 : FVec F S800x100000 .f32 := subf main_v9 main_v13
  let main_cst_2 : FVec F S_ .f32 := constant S_ .f32 0x7F61B1E6#32
  let main_v15 : FVec F S800x100000 .f32 := broadcastInDim S800x100000 ![] bcast_S_S800x100000 main_cst_2
  let main_v16 : IVec S800x100000 1 := cmpf .ole main_v14 main_v15
  main_v16
-- ==== Kernel.lean ====
abbrev S16x50x128 : Shape := ⟨3, ![16, 50, 128]⟩
abbrev S100000x128 : Shape := ⟨2, ![100000, 128]⟩
abbrev S800x128 : Shape := ⟨2, ![800, 128]⟩
abbrev S_ : Shape := ⟨0, ![]⟩
abbrev S100352x128 : Shape := ⟨2, ![100352, 128]⟩
abbrev S800 : Shape := ⟨1, ![800]⟩
abbrev S800x1 : Shape := ⟨2, ![800, 1]⟩
abbrev S100000 : Shape := ⟨1, ![100000]⟩
abbrev S100352 : Shape := ⟨1, ![100352]⟩
abbrev S1x100352 : Shape := ⟨2, ![1, 100352]⟩
abbrev S800x100352 : Shape := ⟨2, ![800, 100352]⟩
abbrev S2048x128 : Shape := ⟨2, ![2048, 128]⟩
abbrev S1x2048 : Shape := ⟨2, ![1, 2048]⟩
abbrev S800x2048 : Shape := ⟨2, ![800, 2048]⟩
abbrev S800x100 : Shape := ⟨2, ![800, 100]⟩
abbrev S800x100x1 : Shape := ⟨3, ![800, 100, 1]⟩
abbrev S1 : Shape := ⟨1, ![1]⟩
abbrev S1x1x1 : Shape := ⟨3, ![1, 1, 1]⟩
abbrev S800x100x128 : Shape := ⟨3, ![800, 100, 128]⟩
abbrev S16x50x100 : Shape := ⟨3, ![16, 50, 100]⟩
abbrev S16x50x100x128 : Shape := ⟨4, ![16, 50, 100, 128]⟩

abbrev nBuf : Space → Nat
  | .hbm => 62
  | .vmem => 8
  | .smem => 0
  | _ => 0

abbrev bufTy : (tb : Table) → Fin (tcTables nBuf tb) → BufTy
  | .hbm, ⟨0, _⟩ => ⟨S16x50x128, .f32⟩
  | .hbm, ⟨1, _⟩ => ⟨S100000x128, .f32⟩
  | .hbm, ⟨2, _⟩ => ⟨S800x128, .f32⟩
  | .hbm, ⟨3, _⟩ => ⟨S_, .i32⟩
  | .hbm, ⟨4, _⟩ => ⟨S_, .f32⟩
  | .hbm, ⟨5, _⟩ => ⟨S100352x128, .f32⟩
  | .hbm, ⟨6, _⟩ => ⟨S800x128, .f32⟩
  | .hbm, ⟨7, _⟩ => ⟨S_, .f32⟩
  | .hbm, ⟨8, _⟩ => ⟨S800, .f32⟩
  | .hbm, ⟨9, _⟩ => ⟨S800x1, .f32⟩
  | .hbm, ⟨10, _⟩ => ⟨S100000x128, .f32⟩
  | .hbm, ⟨11, _⟩ => ⟨S_, .f32⟩
  | .hbm, ⟨12, _⟩ => ⟨S100000, .f32⟩
  | .hbm, ⟨13, _⟩ => ⟨S_, .f32⟩
  | .hbm, ⟨14, _⟩ => ⟨S_, .f32⟩
  | .hbm, ⟨15, _⟩ => ⟨S100352, .f32⟩
  | .hbm, ⟨16, _⟩ => ⟨S1x100352, .f32⟩
  | .hbm, ⟨17, _⟩ => ⟨S800x100352, .f32⟩
  | .hbm, ⟨18, _⟩ => ⟨S800x100352, .f32⟩
  | .hbm, ⟨19, _⟩ => ⟨S800x100, .f32⟩
  | .hbm, ⟨20, _⟩ => ⟨S800x100, .i32⟩
  | .hbm, ⟨21, _⟩ => ⟨S800x100, .f32⟩
  | .hbm, ⟨22, _⟩ => ⟨S800x100, .f32⟩
  | .hbm, ⟨23, _⟩ => ⟨S_, .f32⟩
  | .hbm, ⟨24, _⟩ => ⟨S800, .f32⟩
  | .hbm, ⟨25, _⟩ => ⟨S_, .f32⟩
  | .hbm, ⟨26, _⟩ => ⟨S800, .f32⟩
  | .hbm, ⟨27, _⟩ => ⟨S800, .f32⟩
  | .hbm, ⟨28, _⟩ => ⟨S800x1, .f32⟩
  | .hbm, ⟨29, _⟩ => ⟨S800x100, .f32⟩
  | .hbm, ⟨30, _⟩ => ⟨S800x100, .f32⟩
  | .hbm, ⟨31, _⟩ => ⟨S800x100, .f32⟩
  | .hbm, ⟨32, _⟩ => ⟨S_, .f32⟩
  | .hbm, ⟨33, _⟩ => ⟨S800, .f32⟩
  | .hbm, ⟨34, _⟩ => ⟨S800x1, .f32⟩
  | .hbm, ⟨35, _⟩ => ⟨S800x100, .f32⟩
  | .hbm, ⟨36, _⟩ => ⟨S800x100, .f32⟩
  | .hbm, ⟨37, _⟩ => ⟨S_, .i32⟩
  | .hbm, ⟨38, _⟩ => ⟨S800x100, .i32⟩
  | .hbm, ⟨39, _⟩ => ⟨S800x100, .i1⟩
  | .hbm, ⟨40, _⟩ => ⟨S_, .i32⟩
  | .hbm, ⟨41, _⟩ => ⟨S800x100, .i32⟩
  | .hbm, ⟨42, _⟩ => ⟨S800x100, .i32⟩
  | .hbm, ⟨43, _⟩ => ⟨S800x100, .i32⟩
  | .hbm, ⟨44, _⟩ => ⟨S800x100x1, .i32⟩
  | .hbm, ⟨45, _⟩ => ⟨S1, .i32⟩
  | .hbm, ⟨46, _⟩ => ⟨S_, .i32⟩
  | .hbm, ⟨47, _⟩ => ⟨S800x100x1, .i32⟩
  | .hbm, ⟨48, _⟩ => ⟨S800x100x1, .i1⟩
  | .hbm, ⟨49, _⟩ => ⟨S1x1x1, .i32⟩
  | .hbm, ⟨50, _⟩ => ⟨S800x100x1, .i32⟩
  | .hbm, ⟨51, _⟩ => ⟨S800x100x1, .i1⟩
  | .hbm, ⟨52, _⟩ => ⟨S800x100x1, .i1⟩
  | .hbm, ⟨53, _⟩ => ⟨S_, .i1⟩
  | .hbm, ⟨54, _⟩ => ⟨S800x100, .i1⟩
  | .hbm, ⟨55, _⟩ => ⟨S800x100x128, .f32⟩
  | .hbm, ⟨56, _⟩ => ⟨S800x100x128, .i1⟩
  | .hbm, ⟨57, _⟩ => ⟨S_, .f32⟩
  | .hbm, ⟨58, _⟩ => ⟨S800x100x128, .f32⟩
  | .hbm, ⟨59, _⟩ => ⟨S800x100x128, .f32⟩
  | .hbm, ⟨60, _⟩ => ⟨S16x50x100, .f32⟩
  | .hbm, ⟨61, _⟩ => ⟨S16x50x100x128, .f32⟩
  | .local _ .vmem, ⟨0, _⟩ => ⟨S800x128, .f32⟩
  | .local _ .vmem, ⟨1, _⟩ => ⟨S2048x128, .f32⟩
  | .local _ .vmem, ⟨2, _⟩ => ⟨S2048x128, .f32⟩
  | .local _ .vmem, ⟨3, _⟩ => ⟨S800x1, .f32⟩
  | .local _ .vmem, ⟨4, _⟩ => ⟨S1x2048, .f32⟩
  | .local _ .vmem, ⟨5, _⟩ => ⟨S1x2048, .f32⟩
  | .local _ .vmem, ⟨6, _⟩ => ⟨S800x2048, .f32⟩
  | .local _ .vmem, ⟨7, _⟩ => ⟨S800x2048, .f32⟩
  | _, _ => ⟨S16x50x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_call1_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_values : Ref sig .tc := ⟨.hbm, 19, rfl⟩
abbrev main_indices : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call2_c : Ref sig .tc := ⟨.hbm, 37, rfl⟩
abbrev main_call2_v0 : Ref sig .tc := ⟨.hbm, 38, rfl⟩
abbrev main_call2_v1 : Ref sig .tc := ⟨.hbm, 39, rfl⟩
abbrev main_call2_c_0 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_v5 : Ref sig .tc := ⟨.hbm, 44, rfl⟩
abbrev main_call2_c_1 : Ref sig .tc := ⟨.hbm, 45, rfl⟩
abbrev main_call2_c_2 : Ref sig .tc := ⟨.hbm, 46, rfl⟩
abbrev main_call2_v6 : Ref sig .tc := ⟨.hbm, 47, rfl⟩
abbrev main_call2_v7 : Ref sig .tc := ⟨.hbm, 48, rfl⟩
abbrev main_call2_v8 : Ref sig .tc := ⟨.hbm, 49, rfl⟩
abbrev main_call2_v9 : Ref sig .tc := ⟨.hbm, 50, rfl⟩
abbrev main_call2_v10 : Ref sig .tc := ⟨.hbm, 51, rfl⟩
abbrev main_call2_v11 : Ref sig .tc := ⟨.hbm, 52, rfl⟩
abbrev main_call2_c_3 : Ref sig .tc := ⟨.hbm, 53, rfl⟩
abbrev main_call2_v12 : Ref sig .tc := ⟨.hbm, 54, rfl⟩
abbrev main_call2_v13 : Ref sig .tc := ⟨.hbm, 55, rfl⟩
abbrev main_call2_v14 : Ref sig .tc := ⟨.hbm, 56, rfl⟩
abbrev main_call2_cst : Ref sig .tc := ⟨.hbm, 57, rfl⟩
abbrev main_call2_v15 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S800x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S800x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S800x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16x50x128 : Shape := ⟨3, ![16, 50, 128]⟩
abbrev S100000x128 : Shape := ⟨2, ![100000, 128]⟩
abbrev S800x128 : Shape := ⟨2, ![800, 128]⟩
abbrev S_ : Shape := ⟨0, ![]⟩
abbrev S800 : Shape := ⟨1, ![800]⟩
abbrev S800x1 : Shape := ⟨2, ![800, 1]⟩
abbrev S100000 : Shape := ⟨1, ![100000]⟩
abbrev S1x100000 : Shape := ⟨2, ![1, 100000]⟩
abbrev S800x100000 : Shape := ⟨2, ![800, 100000]⟩
abbrev S128x100000 : Shape := ⟨2, ![128, 100000]⟩
abbrev S800x100 : Shape := ⟨2, ![800, 100]⟩
abbrev S800x100x1 : Shape := ⟨3, ![800, 100, 1]⟩
abbrev S1 : Shape := ⟨1, ![1]⟩
abbrev S1x1x1 : Shape := ⟨3, ![1, 1, 1]⟩
abbrev S800x100x128 : Shape := ⟨3, ![800, 100, 128]⟩
abbrev S16x50x100 : Shape := ⟨3, ![16, 50, 100]⟩
abbrev S16x50x100x128 : Shape := ⟨4, ![16, 50, 100, 128]⟩

abbrev nBuf : Space → Nat
  | .hbm => 64
  | .vmem => 0
  | .smem => 0
  | _ => 0

abbrev bufTy : (tb : Table) → Fin (tcTables nBuf tb) → BufTy
  | .hbm, ⟨0, _⟩ => ⟨S16x50x128, .f32⟩
  | .hbm, ⟨1, _⟩ => ⟨S100000x128, .f32⟩
  | .hbm, ⟨2, _⟩ => ⟨S800x128, .f32⟩
  | .hbm, ⟨3, _⟩ => ⟨S800x128, .f32⟩
  | .hbm, ⟨4, _⟩ => ⟨S_, .f32⟩
  | .hbm, ⟨5, _⟩ => ⟨S800, .f32⟩
  | .hbm, ⟨6, _⟩ => ⟨S800x1, .f32⟩
  | .hbm, ⟨7, _⟩ => ⟨S100000x128, .f32⟩
  | .hbm, ⟨8, _⟩ => ⟨S_, .f32⟩
  | .hbm, ⟨9, _⟩ => ⟨S100000, .f32⟩
  | .hbm, ⟨10, _⟩ => ⟨S1x100000, .f32⟩
  | .hbm, ⟨11, _⟩ => ⟨S800x100000, .f32⟩
  | .hbm, ⟨12, _⟩ => ⟨S800x100000, .f32⟩
  | .hbm, ⟨13, _⟩ => ⟨S800x100000, .f32⟩
  | .hbm, ⟨14, _⟩ => ⟨S128x100000, .f32⟩
  | .hbm, ⟨15, _⟩ => ⟨S800x100000, .f32⟩
  | .hbm, ⟨16, _⟩ => ⟨S_, .f32⟩
  | .hbm, ⟨17, _⟩ => ⟨S800x100000, .f32⟩
  | .hbm, ⟨18, _⟩ => ⟨S800x100000, .f32⟩
  | .hbm, ⟨19, _⟩ => ⟨S800x100000, .f32⟩
  | .hbm, ⟨20, _⟩ => ⟨S800x100000, .f32⟩
  | .hbm, ⟨21, _⟩ => ⟨S800x100, .f32⟩
  | .hbm, ⟨22, _⟩ => ⟨S800x100, .i32⟩
  | .hbm, ⟨23, _⟩ => ⟨S800x100, .f32⟩
  | .hbm, ⟨24, _⟩ => ⟨S800x100, .f32⟩
  | .hbm, ⟨25, _⟩ => ⟨S_, .f32⟩
  | .hbm, ⟨26, _⟩ => ⟨S800, .f32⟩
  | .hbm, ⟨27, _⟩ => ⟨S_, .f32⟩
  | .hbm, ⟨28, _⟩ => ⟨S800, .f32⟩
  | .hbm, ⟨29, _⟩ => ⟨S800, .f32⟩
  | .hbm, ⟨30, _⟩ => ⟨S800x1, .f32⟩
  | .hbm, ⟨31, _⟩ => ⟨S800x100, .f32⟩
  | .hbm, ⟨32, _⟩ => ⟨S800x100, .f32⟩
  | .hbm, ⟨33, _⟩ => ⟨S800x100, .f32⟩
  | .hbm, ⟨34, _⟩ => ⟨S_, .f32⟩
  | .hbm, ⟨35, _⟩ => ⟨S800, .f32⟩
  | .hbm, ⟨36, _⟩ => ⟨S800x1, .f32⟩
  | .hbm, ⟨37, _⟩ => ⟨S800x100, .f32⟩
  | .hbm, ⟨38, _⟩ => ⟨S800x100, .f32⟩
  | .hbm, ⟨39, _⟩ => ⟨S_, .i32⟩
  | .hbm, ⟨40, _⟩ => ⟨S800x100, .i32⟩
  | .hbm, ⟨41, _⟩ => ⟨S800x100, .i1⟩
  | .hbm, ⟨42, _⟩ => ⟨S_, .i32⟩
  | .hbm, ⟨43, _⟩ => ⟨S800x100, .i32⟩
  | .hbm, ⟨44, _⟩ => ⟨S800x100, .i32⟩
  | .hbm, ⟨45, _⟩ => ⟨S800x100, .i32⟩
  | .hbm, ⟨46, _⟩ => ⟨S800x100x1, .i32⟩
  | .hbm, ⟨47, _⟩ => ⟨S1, .i32⟩
  | .hbm, ⟨48, _⟩ => ⟨S_, .i32⟩
  | .hbm, ⟨49, _⟩ => ⟨S800x100x1, .i32⟩
  | .hbm, ⟨50, _⟩ => ⟨S800x100x1, .i1⟩
  | .hbm, ⟨51, _⟩ => ⟨S1x1x1, .i32⟩
  | .hbm, ⟨52, _⟩ => ⟨S800x100x1, .i32⟩
  | .hbm, ⟨53, _⟩ => ⟨S800x100x1, .i1⟩
  | .hbm, ⟨54, _⟩ => ⟨S800x100x1, .i1⟩
  | .hbm, ⟨55, _⟩ => ⟨S_, .i1⟩
  | .hbm, ⟨56, _⟩ => ⟨S800x100, .i1⟩
  | .hbm, ⟨57, _⟩ => ⟨S800x100x128, .f32⟩
  | .hbm, ⟨58, _⟩ => ⟨S800x100x128, .i1⟩
  | .hbm, ⟨59, _⟩ => ⟨S_, .f32⟩
  | .hbm, ⟨60, _⟩ => ⟨S800x100x128, .f32⟩
  | .hbm, ⟨61, _⟩ => ⟨S800x100x128, .f32⟩
  | .hbm, ⟨62, _⟩ => ⟨S16x50x100, .f32⟩
  | .hbm, ⟨63, _⟩ => ⟨S16x50x100x128, .f32⟩
  | _, _ => ⟨S16x50x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_values : Ref sig .tc := ⟨.hbm, 21, rfl⟩
abbrev main_indices : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_c : Ref sig .tc := ⟨.hbm, 39, rfl⟩
abbrev main_call0_v0 : Ref sig .tc := ⟨.hbm, 40, rfl⟩
abbrev main_call0_v1 : Ref sig .tc := ⟨.hbm, 41, rfl⟩
abbrev main_call0_c_0 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_c_1 : Ref sig .tc := ⟨.hbm, 47, rfl⟩
abbrev main_call0_c_2 : Ref sig .tc := ⟨.hbm, 48, rfl⟩
abbrev main_call0_v6 : Ref sig .tc := ⟨.hbm, 49, rfl⟩
abbrev main_call0_v7 : Ref sig .tc := ⟨.hbm, 50, rfl⟩
abbrev main_call0_v8 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_c_3 : Ref sig .tc := ⟨.hbm, 55, rfl⟩
abbrev main_call0_v12 : Ref sig .tc := ⟨.hbm, 56, rfl⟩
abbrev main_call0_v13 : Ref sig .tc := ⟨.hbm, 57, rfl⟩
abbrev main_call0_v14 : Ref sig .tc := ⟨.hbm, 58, rfl⟩
abbrev main_call0_cst : Ref sig .tc := ⟨.hbm, 59, rfl⟩
abbrev main_call0_v15 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩

abbrev nD : Nat := 1
abbrev τ : Topo := Topo.v7x

variable {F : FTy → Type} [FloatOps F]
-- ==== Proof.Block.lean ====
/-
  What one grid point computes, and the whole array of distances.

  A grid point holds all 800 queries and 2048 rows of the padded targets. Its block is, at query `r` and row `b`,
  `(|q|² + |t|²) - 2 · (q · t)`; the 49 blocks lie side by side, so after the region the array holds that expression at
  every query and every padded target.
-/
module

public import proofs.«01_k».proof.Proof.Gen.KernelIdeal.Frame
public import Idealize.ShloMosaic.Lib.Pipeline.ValueKit
public import Idealize.ShloMosaic.Lib.Pipeline.Value
public import Idealize.ShloMosaic.Lib.ValueIdx
public import Idealize.ShloMosaic.PureOps.Ideal.Laws

@[expose] public section

noncomputable section

open scoped BigOperators

namespace Cert.KernelIdeal.Nearest

open Idealize.ShloMosaic hiding ix1 ix2
open Cert.KernelIdeal Cert.KernelIdeal.Gen Idealize.ShloMosaic.TcCoe Idealize.SL.Sem
open Idealize.ShloMosaic.ValueIdx
open Idealize.ShloMosaic.Pipeline (Dat)

/-- The literal `2.0`. -/
abbrev two : EReal := Ideal.ofBits .f32 0x40000000#32

/-- The literal `0.0`. -/
abbrev nil : EReal := Ideal.ofBits .f32 0x00000000#32

/-- The squared distances, from the queries, the padded targets and their squared lengths. -/
def dist (q : FVec Ideal S800x128 .f32) (t : FVec Ideal S100352x128 .f32) (q2 : FVec Ideal S800x1 .f32)
    (t2 : FVec Ideal S1x100352 .f32) : FVec Ideal S800x100352 .f32 := fun i =>
  (q2 (ix2 (⟨(i 0).val, (i 0).isLt⟩ : Fin 800) (0 : Fin 1)) + t2 (ix2 (0 : Fin 1) (⟨(i 1).val, (i 1).isLt⟩ : Fin 100352)))
    - two * (nil + ∑ k : Fin 128, q (ix2 (⟨(i 0).val, (i 0).isLt⟩ : Fin 800) k)
        * t (ix2 (⟨(i 1).val, (i 1).isLt⟩ : Fin 100352) k))

/-! ## One block -/

/-- The product's left operand is read at the result's row. -/
theorem lhs0 (i : S800x2048.Idx) (p : dot_S800x128_S2048x128_S800x2048_1_1_0_0_n_n.contr.Idx) :
    (dot_S800x128_S2048x128_S800x2048_1_1_0_0_n_n.lhsIdx i p 0).val = (i 0).val := by
  unfold DotDims.lhsIdx
  rw [dif_neg (show ¬(0 : Fin S800x128.rank) ∈ dot_S800x128_S2048x128_S800x2048_1_1_0_0_n_n.lhsBatch by decide),
    dif_pos (show (0 : Fin S800x128.rank) ∈ dot_S800x128_S2048x128_S800x2048_1_1_0_0_n_n.lhsNonContracting by decide)]
  rfl

/-- The product's right operand is read at the row the result's column names. -/
theorem rhs0 (i : S800x2048.Idx) (p : dot_S800x128_S2048x128_S800x2048_1_1_0_0_n_n.contr.Idx) :
    (dot_S800x128_S2048x128_S800x2048_1_1_0_0_n_n.rhsIdx i p 0).val = (i 1).val := by
  unfold DotDims.rhsIdx
  rw [dif_neg (show ¬(0 : Fin S2048x128.rank) ∈ dot_S800x128_S2048x128_S800x2048_1_1_0_0_n_n.rhsBatch by decide),
    dif_pos (show (0 : Fin S2048x128.rank) ∈ dot_S800x128_S2048x128_S800x2048_1_1_0_0_n_n.rhsNonContracting by decide)]
  rfl

/-- The product of the queries with a block of targets, both along their last axis, read at an index. -/
theorem product_apply (q : FVec Ideal S800x128 .f32) (t : FVec Ideal S2048x128 .f32) (z : FVec Ideal S800x2048 .f32)
    (r : Fin 800) (b : Fin 2048) :
    matmul dot_S800x128_S2048x128_S800x2048_1_1_0_0_n_n none q t z (ix2 r b)
      = z (ix2 r b) + ∑ k : Fin 128, q (ix2 r k) * t (ix2 b k) := by
  show z (ix2 r b) + ∑ p : dot_S800x128_S2048x128_S800x2048_1_1_0_0_n_n.contr.Idx, _ = _
  rw [← Equiv.sum_comp (contrEquiv1 dot_S800x128_S2048x128_S800x2048_1_1_0_0_n_n 128 rfl rfl).symm]
  refine congrArg (_ + ·) (Finset.sum_congr rfl fun k _ => ?_)
  have hk := contrEquiv1_symm_val dot_S800x128_S2048x128_S800x2048_1_1_0_0_n_n 128 rfl rfl k
  have el : dot_S800x128_S2048x128_S800x2048_1_1_0_0_n_n.lhsIdx (ix2 r b)
      ((contrEquiv1 dot_S800x128_S2048x128_S800x2048_1_1_0_0_n_n 128 rfl rfl).symm k) = ix2 r k :=
    funext fun a => Fin.ext (by
      match a with
      | ⟨0, _⟩ => exact lhs0 _ _
      | ⟨1, _⟩ => exact (dot_S800x128_S2048x128_S800x2048_1_1_0_0_n_n.lhsIdx_val_of_single rfl _ _).trans hk)
  have er : dot_S800x128_S2048x128_S800x2048_1_1_0_0_n_n.rhsIdx (ix2 r b)
      ((contrEquiv1 dot_S800x128_S2048x128_S800x2048_1_1_0_0_n_n 128 rfl rfl).symm k) = ix2 b k :=
    funext fun a => Fin.ext (by
      match a with
      | ⟨0, _⟩ => exact rhs0 _ _
      | ⟨1, _⟩ => exact (dot_S800x128_S2048x128_S800x2048_1_1_0_0_n_n.rhsIdx_val_of_single rfl _ _).trans hk)
  rw [el, er]

/-- One block, read at query `r` and row `b`. -/
theorem block_apply (q : Vec Ideal S800x128 .f32) (t : Vec Ideal S2048x128 .f32) (q2 : Vec Ideal S800x1 .f32)
    (t2 : Vec Ideal S1x2048 .f32) (r : Fin 800) (b : Fin 2048) :
    k0_pay1 (F := Ideal) q t q2 t2 (ix2 r b)
      = (q2 (ix2 r (0 : Fin 1)) + t2 (ix2 (0 : Fin 1) b)) - two * (nil + ∑ k : Fin 128, q (ix2 r k) * t (ix2 b k)) := by
  unfold k0_pay1
  simp only [shapeCast_self]
  rw [subf_apply, addf_apply, mulf_apply, product_apply]
  rw [broadcastTo_apply q2 broadcasts_S800x1_S800x2048 (ix2 r b) (ix2 r (0 : Fin 1)) (fun a => by
      match a with
      | ⟨0, _⟩ => rfl
      | ⟨1, _⟩ => rfl),
    broadcastTo_apply t2 broadcasts_S1x2048_S800x2048 (ix2 r b) (ix2 (0 : Fin 1) b) (fun a => by
      match a with
      | ⟨0, _⟩ => rfl
      | ⟨1, _⟩ => rfl)]
  rfl

/-! ## The whole array -/

variable (m : (ℓ : Loc nD τ sig) → Buf (Elt Ideal) ℓ)

/-- Where each window's block lies at a grid point: the queries whole, the targets' and the result's 2048 columns at the
    point's own place (checked over the 49 points). -/
theorem places : ∀ t : Fin cfg0.N, win0_0.index t = ![0, 0] ∧ win0_1.index t = ![t.val, 0] ∧ win0_2.index t = ![0, 0]
    ∧ win0_3.index t = ![0, t.val] ∧ win0_4.index t = ![0, t.val] :=
  (by decide +kernel : ∀ t : Fin grid0.N, _)

/-- After the region the result array holds the distances of what the region found in its four operands. -/
theorem region_result (c : Dev nD) :
    (dats m 0 c).arrAt 4 cfg0.N = dist (V m c main_v0) (V m c main_v1) (V m c main_v4) (V m c main_v8) := by
  refine (dats m 0 c).arrAt_eq_of_covers 4 _ (by decide +kernel) fun t hf y => ?_
  obtain ⟨e0, e1, e2, e3, e4⟩ := places t
  blk_simp
  rw [after0_4]
  frame_out
  obtain ⟨r, b, rfl⟩ : ∃ (r : Fin 800) (b : Fin 2048), y = ix2 r b := ⟨y 0, y 1, ValueIdx.eq_ix2 y⟩
  obtain ⟨i, hi⟩ : ∃ i : S800x100352.Idx, i = (win0_4.blk t).view.emb (ix2 r b) := ⟨_, rfl⟩
  have hi0 : (⟨(i 0).val, (i 0).isLt⟩ : Fin 800) = r := Fin.ext (by
    subst hi
    blk_simp [e4])
  have hi1 : (i 1).val = t.val * 2048 + b.val := by
    subst hi
    blk_simp [e4]
  have h0 : ∀ k : Fin 128, (iblk m c 0 t : Vec Ideal S800x128 .f32) (ix2 r k) = V m c main_v0 (ix2 r k) := fun k => by
    blk_ext! [iblk, e0]
  have h1 : ∀ k : Fin 128, (iblk m c 1 t : Vec Ideal S2048x128 .f32) (ix2 b k)
      = V m c main_v1 (ix2 (⟨(i 1).val, (i 1).isLt⟩ : Fin 100352) k) := fun k => by
    blk_ext! [iblk, e1, hi1]
  have h2 : (iblk m c 2 t : Vec Ideal S800x1 .f32) (ix2 r (0 : Fin 1)) = V m c main_v4 (ix2 r (0 : Fin 1)) := by
    blk_ext! [iblk, e2]
  have h3 : (iblk m c 3 t : Vec Ideal S1x2048 .f32) (ix2 (0 : Fin 1) b)
      = V m c main_v8 (ix2 (0 : Fin 1) (⟨(i 1).val, (i 1).isLt⟩ : Fin 100352)) := by
    blk_ext! [iblk, e3, hi1]
  rw [block_apply]
  simp only [h0, h1, h2, h3]
  rw [← hi]
  unfold dist
  rw [hi0]

end Cert.KernelIdeal.Nearest

end
-- ==== Proof.Prefix.lean ====
/-
  What the region finds in its four operands: the host operations before it, read as functions of the two arguments.
-/
module

public import proofs.«01_k».proof.Proof.Gen.KernelIdeal.Frame
public import Idealize.ShloMosaic.Lib.Claim
public import Idealize.ShloMosaic.PureOps.Ideal.Laws

@[expose] public section

noncomputable section

namespace Cert.KernelIdeal.Nearest

open Cert.KernelIdeal Cert.KernelIdeal.Gen Idealize.ShloMosaic Idealize.ShloMosaic.TcCoe Idealize.SL.Sem

/-- The queries, one row each. -/
def queries (x0 : FVec Ideal S16x50x128 .f32) : FVec Ideal S800x128 .f32 :=
  shapeCast S800x128 x0 shapeCasts_S16x50x128_S800x128

/-- The targets, with 352 rows of zeros after them. -/
def paddedTargets (x1 : FVec Ideal S100000x128 .f32) : FVec Ideal S100352x128 .f32 :=
  pad S100352x128 ![0, 0] ![352, 0] ![0, 0] x1 (sitofp .f32 (constantI S_ 32 0#32))
    pads_S100000x128_S100352x128_03520_000 h_S_

/-- The squared length of each query, as a column. -/
def querySquares (x0 : FVec Ideal S16x50x128 .f32) : FVec Ideal S800x1 .f32 :=
  broadcastInDim S800x1 ![0] bcast_S800_S800x1_0
    (Host.reduceAdd (mulf (queries x0) (queries x0)) (constant S_ .f32 0x00000000#32) reducesTo_S800x128_S800_d1 h_S_)

/-- The squared length of each target, with 352 copies of the large number after them, as a row. -/
def targetSquares (x1 : FVec Ideal S100000x128 .f32) : FVec Ideal S1x100352 .f32 :=
  broadcastInDim S1x100352 ![1] bcast_S100352_S1x100352_1
    (pad S100352 ![0] ![352] ![0]
      (Host.reduceAdd (mulf x1 x1) (constant S_ .f32 0x00000000#32) reducesTo_S100000x128_S100000_d1 h_S_)
      (constant S_ .f32 0x7F61B1E6#32) pads_S100000_S100352_03520 h_S_)

variable (m : (ℓ : Loc nD τ sig) → Buf (Elt Ideal) ℓ)

/-- The first operand is the queries. -/
theorem entry_queries (c : Dev nD) : V m c main_v0 = queries (m ((c : Thread nD τ).loc main_arg0)) := by
  entry_read
  rfl

/-- The second operand is the padded targets. -/
theorem entry_targets (c : Dev nD) : V m c main_v1 = paddedTargets (m ((c : Thread nD τ).loc main_arg1)) := by
  entry_read
  rfl

/-- The third operand is the queries' squared lengths. -/
theorem entry_querySquares (c : Dev nD) : V m c main_v4 = querySquares (m ((c : Thread nD τ).loc main_arg0)) := by
  entry_read
  rfl

/-- The fourth operand is the padded targets' squared lengths. -/
theorem entry_targetSquares (c : Dev nD) : V m c main_v8 = targetSquares (m ((c : Thread nD τ).loc main_arg1)) := by
  entry_read
  rfl

end Cert.KernelIdeal.Nearest

end
-- ==== Proof.Columns.lean ====
/-
  The two programs' distances compared column by column.

  In the first 100000 columns the kernel's array and the reference's hold the same number. In the 352 columns of padding
  the target is a row of zeros whose squared length is set to a large number, so the kernel's array holds the query's
  squared length plus that number — at least the large number itself, for every query.
-/
module

public import proofs.«01_k».proof.Proof.Block
public import proofs.«01_k».proof.Proof.Prefix
public import proofs.«01_k».proof.Proof.Gen.ReferenceIdeal.Read
public import Idealize.ShloMosaic.Lib.KernelVsHost

@[expose] public section

noncomputable section

open scoped BigOperators

namespace Cert.KernelIdeal.Nearest

open Idealize.ShloMosaic hiding ix1 ix2
open Cert.KernelIdeal Cert.KernelIdeal.Gen Idealize.SL.Sem
open Idealize.ShloMosaic.ValueIdx
open Cert.ReferenceIdeal.Read

/-- The large number the padded targets' squared lengths are set to. -/
abbrev large : EReal := Ideal.ofBits .f32 0x7F61B1E6#32

variable (x0 : FVec Ideal S16x50x128 .f32) (x1 : FVec Ideal S100000x128 .f32)

/-! ## The padded operands at an index -/

/-- A padded target that is a target. -/
theorem paddedTargets_inside (c : Fin 100000) (k : Fin 128) :
    paddedTargets x1 (ix2 (c.castLE (by decide) : Fin 100352) k) = x1 (ix2 c k) :=
  pad_apply_of_inside _ _ _ _ _ _ _ _ _ fun a => by
    match a with
    | ⟨0, _⟩ => show c.val = 0 + c.val * (0 + 1); omega
    | ⟨1, _⟩ => show k.val = 0 + k.val * (0 + 1); omega

/-- A padded target after the last target is a row of zeros. -/
theorem paddedTargets_outside (b : Fin 100352) (hb : 100000 ≤ b.val) (k : Fin 128) :
    paddedTargets x1 (ix2 b k) = 0 := by
  refine (pad_apply_of_not_inside _ _ _ _ _ _ _ _ (0 : Fin 2) ?_).trans ?_
  · rintro ⟨-, -, h⟩
    have h' : (b.val - 0) / (0 + 1) < 100000 := h
    omega
  · show ((((0#32 : BitVec 32).toInt : ℝ)) : EReal) = 0
    simp

/-- The squared length beside a target is the reference's. -/
theorem targetSquares_inside (c : Fin 100000) :
    targetSquares x1 (ix2 (0 : Fin 1) (c.castLE (by decide) : Fin 100352)) = val_main_v5 (F := Ideal) x1 (ix1 c) := by
  refine (broadcastInDim_apply _ _ _ _ (ix1 (c.castLE (by decide) : Fin 100352)) fun a => ?_).trans ?_
  · match a with
    | ⟨0, _⟩ => rfl
  · exact pad_apply_of_inside _ _ _ _ _ _ _ _ _ fun a => by
      match a with
      | ⟨0, _⟩ => show c.val = 0 + c.val * (0 + 1); omega

/-- The squared length beside a row of padding is the large number. -/
theorem targetSquares_outside (b : Fin 100352) (hb : 100000 ≤ b.val) :
    targetSquares x1 (ix2 (0 : Fin 1) b) = large := by
  refine (broadcastInDim_apply _ _ _ _ (ix1 b) fun a => ?_).trans ?_
  · match a with
    | ⟨0, _⟩ => rfl
  · refine (pad_apply_of_not_inside _ _ _ _ _ _ _ _ (0 : Fin 1) ?_).trans rfl
    rintro ⟨-, -, h⟩
    have h' : (b.val - 0) / (0 + 1) < 100000 := h
    omega

/-! ## The distances -/

/-- The kernel's array of distances, as a function of the two arguments. -/
def distances : FVec Ideal S800x100352 .f32 :=
  dist (queries x0) (paddedTargets x1) (querySquares x0) (targetSquares x1)

/-- In the first 100000 columns the kernel's distance is the reference's. -/
theorem distances_inside (r : Fin 800) (c : Fin 100000) :
    distances x0 x1 (ix2 r (c.castLE (by decide) : Fin 100352)) = val_main_v14 (F := Ideal) x0 x1 (ix2 r c) := by
  rw [val_main_v14_apply, val_main_v9_apply, val_main_v7_apply, val_main_v8_apply, val_main_v6_apply, val_main_v13_apply,
    val_main_v11_apply, val_main_v12_apply, val_main_cst_1_apply]
  have hs : ∀ k : Fin 128, val_main_v10 (F := Ideal) x1 (ridx_main_v11 (ix2 r c) k)
      = paddedTargets x1 (ix2 (c.castLE (by decide) : Fin 100352) k) := fun k => by
    rw [val_main_v10_apply, paddedTargets_inside]
    exact congrArg x1 (funext fun a => Fin.ext (by
      match a with
      | ⟨0, _⟩ => rfl
      | ⟨1, _⟩ => rfl))
  simp only [hs]
  have ht : val_main_v5 (F := Ideal) x1 (idx_main_v6 (idx_main_v8 (ix2 r c)))
      = targetSquares x1 (ix2 (0 : Fin 1) (c.castLE (by decide) : Fin 100352)) := by
    rw [targetSquares_inside]
    exact congrArg _ (funext fun a => Fin.ext (by
      match a with
      | ⟨0, _⟩ => rfl))
  rw [ht]
  have hq : val_main_v3 (F := Ideal) x0 (idx_main_v7 (ix2 r c)) = querySquares x0 (ix2 r (0 : Fin 1)) :=
    congrArg (val_main_v3 (F := Ideal) x0) (funext fun a => Fin.ext (by
      match a with
      | ⟨0, _⟩ => rfl
      | ⟨1, _⟩ => rfl))
  rw [hq]
  have hx : ∀ k : Fin 128, val_main_v0 (F := Ideal) x0 (lidx_main_v11 (ix2 r c) k) = queries x0 (ix2 r k) := fun k =>
    congrArg (val_main_v0 (F := Ideal) x0) (funext fun a => Fin.ext (by
      match a with
      | ⟨0, _⟩ => rfl
      | ⟨1, _⟩ => rfl))
  simp only [hx]
  unfold distances dist nil
  rw [Ideal.ofBits_zero_f32, zero_add]
  rfl

/-- A square is not negative. -/
theorem square_nonneg (a : EReal) : 0 ≤ a * a := by
  rcases le_total 0 a with h | h
  · exact EReal.mul_nonneg h h
  · rw [← neg_mul_neg]
    have h' : 0 ≤ -a := EReal.neg_nonneg.mpr h
    exact EReal.mul_nonneg h' h'

/-- A query's squared length is not negative. -/
theorem querySquares_nonneg (r : Fin 800) : 0 ≤ querySquares x0 (ix2 r (0 : Fin 1)) := by
  show 0 ≤ val_main_v3 (F := Ideal) x0 (ix2 r (0 : Fin 1))
  rw [val_main_v3_apply, val_main_v2_apply, val_main_cst_apply]
  refine add_nonneg (le_of_eq Ideal.ofBits_zero_f32.symm) (Finset.sum_nonneg fun k _ => ?_)
  rw [val_main_v1_apply]
  exact square_nonneg _

/-- In the columns of padding the kernel's distance is at least the large number. -/
theorem distances_outside (r : Fin 800) (b : Fin 100352) (hb : 100000 ≤ b.val) : large ≤ distances x0 x1 (ix2 r b) := by
  have e : distances x0 x1 (ix2 r b) = querySquares x0 (ix2 r (0 : Fin 1)) + large := by
    show (querySquares x0 (ix2 r (0 : Fin 1)) + targetSquares x1 (ix2 (0 : Fin 1) b))
      - two * (nil + ∑ k : Fin 128, queries x0 (ix2 r k) * paddedTargets x1 (ix2 b k)) = _
    simp only [paddedTargets_outside x1 b hb, targetSquares_outside x1 b hb, mul_zero, Finset.sum_const_zero, nil,
      Ideal.ofBits_zero_f32, add_zero, sub_zero]
  rw [e]
  exact le_add_of_nonneg_left (querySquares_nonneg x0 r)

end Cert.KernelIdeal.Nearest

end
-- ==== Proof.SortTail.lean ====
/-
  The first entries of a stable sort do not see a tail of elements that never come first.

  The kernel ranks rows that are longer than the reference's: behind the true distances stand padding columns. A stable
  insertion sort of `l ++ p`, where no element of `p` sorts strictly before an element of `l`, is the sort of `l`
  followed by the sort of `p`. So the first `n` positions are those of the short row.
-/
module

public import Idealize.ShloMosaic.PureOps.ShapeOps

@[expose] public section

namespace Cert.Nearest

open Idealize.ShloMosaic

section Lists
variable {ι κ : Type}

/-- Inserting `a` in front of a tail none of whose elements sorts before `a`: the tail stays where it is. -/
theorem insertBefore_append (B : ι → ι → Bool) (a : ι) (q : List ι) (hq : ∀ b ∈ q, B b a = false) (l : List ι) :
    insertBefore B a (l ++ q) = insertBefore B a l ++ q := by
  induction l with
  | nil =>
    cases q with
    | nil => rfl
    | cons b q' =>
      have hb : B b a = false := hq b (by simp)
      simp [insertBefore, hb]
  | cons b l ih =>
    simp only [List.cons_append, insertBefore]
    split
    · rw [ih]; rfl
    · rfl

/-- Sorting keeps the elements. -/
theorem mem_insertBefore (B : ι → ι → Bool) (a x : ι) (l : List ι) (h : x ∈ insertBefore B a l) : x = a ∨ x ∈ l := by
  induction l with
  | nil => simpa [insertBefore] using h
  | cons b l ih =>
    simp only [insertBefore] at h
    split at h
    · rcases List.mem_cons.mp h with rfl | h
      · exact Or.inr (by simp)
      · rcases ih h with h | h
        · exact Or.inl h
        · exact Or.inr (List.mem_cons_of_mem _ h)
    · rcases List.mem_cons.mp h with h | h
      · exact Or.inl h
      · exact Or.inr h

/-- An element of the sorted list is an element of the list. -/
theorem mem_of_mem_stableSort (B : ι → ι → Bool) (x : ι) (l : List ι) (h : x ∈ stableSort B l) : x ∈ l := by
  induction l with
  | nil => exact h
  | cons a l ih =>
    rcases mem_insertBefore B a x _ h with rfl | h
    · simp
    · exact List.mem_cons_of_mem _ (ih h)

/-- The sort of a list with such a tail is the list's sort, then the tail's. -/
theorem stableSort_append (B : ι → ι → Bool) (l p : List ι) (h : ∀ a ∈ l, ∀ b ∈ p, B b a = false) :
    stableSort B (l ++ p) = stableSort B l ++ stableSort B p := by
  induction l with
  | nil => rfl
  | cons a l ih =>
    show insertBefore B a (stableSort B (l ++ p)) = insertBefore B a (stableSort B l) ++ stableSort B p
    rw [ih fun x hx b hb => h x (List.mem_cons_of_mem _ hx) b hb]
    exact insertBefore_append B a _ (fun b hb => h a (by simp) b (mem_of_mem_stableSort B b p hb)) _

/-- Sorting renamed elements is renaming the sorted ones. -/
theorem insertBefore_map (B : κ → κ → Bool) (f : ι → κ) (a : ι) (l : List ι) :
    insertBefore B (f a) (l.map f) = (insertBefore (fun x y => B (f x) (f y)) a l).map f := by
  induction l with
  | nil => rfl
  | cons b l ih =>
    simp only [List.map_cons, insertBefore]
    split
    · rw [ih, List.map_cons]
    · rfl

theorem stableSort_map (B : κ → κ → Bool) (f : ι → κ) (l : List ι) :
    stableSort B (l.map f) = (stableSort (fun x y => B (f x) (f y)) l).map f := by
  induction l with
  | nil => rfl
  | cons a l ih =>
    show insertBefore B (f a) (stableSort B (l.map f)) = _
    rw [ih, insertBefore_map]
    rfl

end Lists

/-- The positions of a row of `n + p` entries: the first `n`, then the last `p`. -/
theorem finRange_add (n p : Nat) :
    List.finRange (n + p) = (List.finRange n).map (Fin.castAdd p) ++ (List.finRange p).map (Fin.natAdd n) := by
  apply List.ext_getElem
  · simp
  · intro i h₁ h₂
    rw [List.getElem_append]
    split
    · simp [Fin.ext_iff]
    · next h =>
      simp only [List.length_map, List.length_finRange] at h
      simp [Fin.ext_iff]
      omega

/-- In positions: when no position past the first `n` sorts before one of the first `n`, the `i`-th place (`i < n`) of
    the long row's sort is taken by the same position as in the sort of the first `n` alone. -/
theorem sortedFrom_tail {n p N : Nat} (hN : N = n + p) (B : Fin N → Fin N → Bool) (A : Fin n → Fin n → Bool)
    (hA : ∀ a b : Fin n, B ⟨a.val, by omega⟩ ⟨b.val, by omega⟩ = A a b)
    (h : ∀ (a : Fin n) (b : Fin N), n ≤ b.val → B b ⟨a.val, by omega⟩ = false) (i : Fin n) :
    (sortedFrom B ⟨i.val, by omega⟩).val = (sortedFrom A i).val := by
  subst hN
  have hl : sortPositions (n + p) B
      = (sortPositions n A).map (Fin.castAdd p) ++ stableSort B ((List.finRange p).map (Fin.natAdd n)) := by
    unfold sortPositions
    rw [finRange_add, stableSort_append, stableSort_map]
    · have e : (fun x y => B (Fin.castAdd p x) (Fin.castAdd p y)) = A := funext fun a => funext fun b => hA a b
      rw [e]
    · intro a ha b hb
      obtain ⟨a, -, rfl⟩ := List.mem_map.mp ha
      obtain ⟨b, -, rfl⟩ := List.mem_map.mp hb
      exact h a _ (by simp)
  have hi : i.val < (sortPositions n A).length := by rw [length_sortPositions]; exact i.isLt
  unfold sortedFrom
  simp only [List.get_eq_getElem, Fin.val_cast]
  simp only [hl]
  rw [List.getElem_append_left (by simpa using hi)]
  simp

end Cert.Nearest
-- ==== Proof.TopKTail.lean ====
/-
  The greatest `K` of each row, of a long row and of its first columns.

  `Host.topK` sorts each row with its column numbers, greater first, and keeps the first `K`. When the long rows begin
  with the short ones and no later column is strictly greater than a column of the short row, both give the same
  `K` values and the same `K` column numbers (`K` at most the short row's length): a later column that ties loses,
  the sort being stable.
-/
module

public import proofs.«01_k».proof.Proof.SortTail
public import Idealize.ShloMosaic.Lib.ValueIdxCore

@[expose] public section

namespace Cert.Nearest

open Idealize.ShloMosaic Idealize.ShloMosaic.ValueIdx

section
variable {α : Type} {R N K : Nat}

/-- A rank-2 array with `N` columns. -/
abbrev Rows (R N : Nat) : Shape := ⟨2, ![R, N]⟩

/-- Moving along a row changes the column alone. -/
theorem along_row (r : Fin R) (c k : Fin N) (h : 1 < (Rows R N).rank) :
    Shape.Idx.along (ix2 r c : (Rows R N).Idx) ⟨1, h⟩ k = (ix2 r k : (Rows R N).Idx) := by
  funext a
  match a with
  | ⟨0, _⟩ => rfl
  | ⟨1, _⟩ => rfl

/-- A row sorted together with a second array, read at row `r`, place `c`. -/
theorem sort2_row {β : Type} (cmp : α × β → α × β → BitVec 1) (x : (Rows R N).Idx → α) (y : (Rows R N).Idx → β)
    (r : Fin R) (c : Fin N) :
    (Host.sort2 (Rows R N) 1 cmp x y).1 (ix2 r c)
        = x (ix2 r (sortedFrom (fun k k' : Fin N => cmp (x (ix2 r k), y (ix2 r k)) (x (ix2 r k'), y (ix2 r k')) == 1#1) c))
      ∧ (Host.sort2 (Rows R N) 1 cmp x y).2 (ix2 r c)
        = y (ix2 r (sortedFrom (fun k k' : Fin N => cmp (x (ix2 r k), y (ix2 r k)) (x (ix2 r k'), y (ix2 r k')) == 1#1) c)) := by
  have hb : (fun k k' : Fin N => cmp (x (Shape.Idx.along (ix2 r c : (Rows R N).Idx) ⟨1, Nat.one_lt_two⟩ k),
        y (Shape.Idx.along (ix2 r c : (Rows R N).Idx) ⟨1, Nat.one_lt_two⟩ k))
        (x (Shape.Idx.along (ix2 r c : (Rows R N).Idx) ⟨1, Nat.one_lt_two⟩ k'),
        y (Shape.Idx.along (ix2 r c : (Rows R N).Idx) ⟨1, Nat.one_lt_two⟩ k')) == 1#1)
      = fun k k' : Fin N => cmp (x (ix2 r k), y (ix2 r k)) (x (ix2 r k'), y (ix2 r k')) == 1#1 := by
    funext k k'
    rw [along_row r c k, along_row r c k']
  unfold Host.sort2
  rw [dif_pos (show 1 < (Rows R N).rank from Nat.one_lt_two)]
  constructor
  · refine congrArg x ((along_row r c _ _).trans ?_)
    exact congrArg (fun B : Fin N → Fin N → Bool => (ix2 r (sortedFrom B c) : (Rows R N).Idx)) hb
  · refine congrArg y ((along_row r c _ _).trans ?_)
    exact congrArg (fun B : Fin N → Fin N → Bool => (ix2 r (sortedFrom B c) : (Rows R N).Idx)) hb

/-- Which column stands at place `c` of row `r` after the sort. -/
abbrev placed (gt : α → α → BitVec 1) (x : (Rows R N).Idx → α) (r : Fin R) (c : Fin N) : Fin N :=
  sortedFrom (fun k k' : Fin N => gt (x (ix2 r k)) (x (ix2 r k')) == 1#1) c

/-- Cutting rows to their first `K` places reads the same place. -/
theorem cut_row {β : Type} (x : (Rows R N).Idx → β) (h : (Rows R N).Slices (fun _ => 0) (Rows R K)) (hK : K ≤ N)
    (r : Fin R) (j : Fin K) : extractStridedSlice (Rows R K) (fun _ => 0) x h (ix2 r j) = x (ix2 r (j.castLE hK)) := by
  unfold extractStridedSlice
  refine congrArg x (funext fun a => ?_)
  match a with
  | ⟨0, _⟩ => exact Fin.ext (Nat.zero_add _)
  | ⟨1, _⟩ => exact Fin.ext (Nat.zero_add _)

/-- Each place's column number, as a 32-bit word. -/
abbrev columnWords (R N : Nat) : IVec (Rows R N) 32 := fun i =>
  if hd : 1 < (Rows R N).rank then iotaInDim (Rows R N) 32 ⟨1, hd⟩ i else 0#32

/-- The values of `Host.topK`, read at row `r`, place `j`. -/
theorem topK_fst_apply (gt : α → α → BitVec 1) (x : (Rows R N).Idx → α) (h : (Rows R N).Slices (fun _ => 0) (Rows R K))
    (hK : K ≤ N) (r : Fin R) (j : Fin K) :
    (Host.topK (Rows R K) 1 gt x h).1 (ix2 r j) = x (ix2 r (placed gt x r (j.castLE hK))) := by
  unfold Host.topK
  exact (cut_row (Host.sort2 (Rows R N) 1 (fun l r => gt l.1 r.1) x (columnWords R N)).1 h hK r j).trans
    (sort2_row (fun l r => gt l.1 r.1) x (columnWords R N) r (j.castLE hK)).1

/-- The column numbers of `Host.topK`, read at row `r`, place `j`. -/
theorem topK_snd_apply (gt : α → α → BitVec 1) (x : (Rows R N).Idx → α) (h : (Rows R N).Slices (fun _ => 0) (Rows R K))
    (hK : K ≤ N) (r : Fin R) (j : Fin K) :
    (Host.topK (Rows R K) 1 gt x h).2 (ix2 r j) = BitVec.ofNat 32 (placed gt x r (j.castLE hK)).val := by
  unfold Host.topK
  exact (cut_row (Host.sort2 (Rows R N) 1 (fun l r => gt l.1 r.1) x (columnWords R N)).2 h hK r j).trans
    (sort2_row (fun l r => gt l.1 r.1) x (columnWords R N) r (j.castLE hK)).2

end

section
variable {α : Type} {R n N K : Nat}

/-- The place's column is the same in the long row and in the short one. -/
theorem placed_tail (gt : α → α → BitVec 1) (x : (Rows R N).Idx → α) (y : (Rows R n).Idx → α) (hn : n ≤ N)
    (hxy : ∀ (r : Fin R) (c : Fin n), x (ix2 r (c.castLE hn)) = y (ix2 r c))
    (hpad : ∀ (r : Fin R) (c : Fin n) (b : Fin N), n ≤ b.val → gt (x (ix2 r b)) (y (ix2 r c)) ≠ 1#1)
    (r : Fin R) (c : Fin n) : (placed gt x r (c.castLE hn)).val = (placed gt y r c).val := by
  refine sortedFrom_tail (p := N - n) (by omega) _ _ (fun a b => ?_) (fun a b hb => ?_) c
  · have ea : x (ix2 r ⟨a.val, by omega⟩) = y (ix2 r a) := hxy r a
    have eb : x (ix2 r ⟨b.val, by omega⟩) = y (ix2 r b) := hxy r b
    rw [ea, eb]
  · have ea : x (ix2 r ⟨a.val, by omega⟩) = y (ix2 r a) := hxy r a
    rw [ea]
    exact beq_eq_false_iff_ne.mpr (hpad r a b hb)

/-- THE TOP `K` DO NOT SEE THE PADDING. -/
theorem topK_tail (gt : α → α → BitVec 1) (x : (Rows R N).Idx → α) (y : (Rows R n).Idx → α) (hn : n ≤ N) (hK : K ≤ n)
    (h : (Rows R N).Slices (fun _ => 0) (Rows R K)) (h' : (Rows R n).Slices (fun _ => 0) (Rows R K))
    (hxy : ∀ (r : Fin R) (c : Fin n), x (ix2 r (c.castLE hn)) = y (ix2 r c))
    (hpad : ∀ (r : Fin R) (c : Fin n) (b : Fin N), n ≤ b.val → gt (x (ix2 r b)) (y (ix2 r c)) ≠ 1#1) :
    Host.topK (Rows R K) 1 gt x h = Host.topK (Rows R K) 1 gt y h' := by
  have hp := placed_tail gt x y hn hxy hpad
  refine Prod.ext (funext fun i => ?_) (funext fun i => ?_)
  · obtain ⟨r, j, rfl⟩ : ∃ (r : Fin R) (j : Fin K), i = ix2 r j := ⟨i 0, i 1, eq_ix2 i⟩
    rw [topK_fst_apply gt x h (hK.trans hn), topK_fst_apply gt y h' hK, ← hxy]
    refine congrArg (fun k => x (ix2 r k)) (Fin.ext ?_)
    exact hp r (j.castLE hK)
  · obtain ⟨r, j, rfl⟩ : ∃ (r : Fin R) (j : Fin K), i = ix2 r j := ⟨i 0, i 1, eq_ix2 i⟩
    rw [topK_snd_apply gt x h (hK.trans hn), topK_snd_apply gt y h' hK]
    exact congrArg (BitVec.ofNat 32) (hp r (j.castLE hK))

end

end Cert.Nearest
-- ==== Proof.Tail.lean ====
/-
  What follows the distances: the hundred nearest targets of each query, their weights and their rows.

  Both programs end the same way, so their results are the same two functions of the hundred nearest: `weights` of the
  values and `rowsAt` of the indices. Here the kernel's host operations after the region, and the reference's last
  operations, are read as these functions.
-/
module

public import proofs.«01_k».proof.Proof.Gen.KernelIdeal.Frame
public import proofs.«01_k».proof.Proof.Gen.ReferenceIdeal.Read
public import Idealize.ShloMosaic.Lib.Claim
public import Idealize.ShloMosaic.PureOps.Ideal.Laws

@[expose] public section

noncomputable section

namespace Cert.KernelIdeal.Nearest

open Cert.KernelIdeal Cert.KernelIdeal.Gen Idealize.ShloMosaic Idealize.ShloMosaic.TcCoe Idealize.SL.Sem
open Idealize.ShloMosaic.Pipeline (Dat)

/-- Negated distances of each query, highest first: the hundred highest and their columns. -/
def nearest (d : FVec Ideal S800x100352 .f32) : FVec Ideal S800x100 .f32 × IVec S800x100 32 :=
  Host.topK S800x100 1 (FloatOps.cmpfTotal (F := Ideal) (φ := .f32) .gt) (Host.negf d) sliceFits_S800x100352_S800x100

/-- The exponentials of the (twice negated) values less each row's largest. -/
def exponentials (v : FVec Ideal S800x100 .f32) : FVec Ideal S800x100 .f32 :=
  Host.exp (subf (Host.negf (Host.negf v))
    (broadcastInDim S800x100 ![0, 1] bcast_S800x1_S800x100_0_1
      (broadcastInDim S800x1 ![0] bcast_S800_S800x1_0
        (maximumf (broadcastInDim S800 ![] bcast_S_S800 (constant S_ .f32 0xFF800000#32))
          (Host.reduce FloatOps.maximumf (Host.negf (Host.negf v)) (constant S_ .f32 0xFF800000#32)
            reducesTo_S800x100_S800_d1 h_S_)))))

/-- The weights of the hundred nearest: each row's exponentials over their sum. -/
def weights (v : FVec Ideal S800x100 .f32) : FVec Ideal S16x50x100 .f32 :=
  shapeCast S16x50x100
    (Host.divf (exponentials v)
      (broadcastInDim S800x100 ![0, 1] bcast_S800x1_S800x100_0_1
        (broadcastInDim S800x1 ![0] bcast_S800_S800x1_0
          (Host.reduceAdd (exponentials v) (constant S_ .f32 0x00000000#32) reducesTo_S800x100_S800_d1 h_S_))))
    shapeCasts_S800x100_S16x50x100

/-- The columns, one number each, with a negative one counted from the end. -/
def wrapped (i : IVec S800x100 32) : IVec S800x100x1 32 :=
  broadcastInDim S800x100x1 ![0, 1] bcast_S800x100_S800x100x1_0_1
    (select (cmpi .slt i (broadcastInDim S800x100 ![] bcast_S_S800x100 (constantI S_ 32 0#32)))
      (addi i (broadcastInDim S800x100 ![] bcast_S_S800x100 (constantI S_ 32 100000#32))) i)

/-- The targets' rows at the columns, and a filler where a column is out of range. -/
def rowsAt (i : IVec S800x100 32) (x1 : FVec Ideal S100000x128 .f32) : FVec Ideal S16x50x100x128 .f32 :=
  shapeCast S16x50x100x128
    (select
      (broadcastInDim S800x100x128 ![0, 1] bcast_S800x100_S800x100x128_0_1
        (Host.reduce IntOp.andi
          (andi (cmpi .sge (wrapped i) (broadcastInDim S800x100x1 ![] bcast_S_S800x100x1 (constantI S_ 32 0#32)))
            (cmpi .sle (wrapped i)
              (broadcastInDim S800x100x1 ![0, 1, 2] bcast_S1x1x1_S800x100x1_0_1_2
                (broadcastInDim S1x1x1 ![2] bcast_S1_S1x1x1_2 (constantI S1 32 99999#32)))))
          (constantI S_ 1 1#1) reducesTo_S800x100x1_S800x100_d2 h_S_))
      (Host.gather gather_S100000x128_S800x100x1_S800x100x128_2_0_n_n_0_2_1128 x1 (wrapped i))
      (broadcastInDim S800x100x128 ![] bcast_S_S800x100x128 (constant S_ .f32 0x7FC00000#32)))
    shapeCasts_S800x100x128_S16x50x100x128

/-! ## The reference -/

open Cert.ReferenceIdeal.Read in
/-- The reference's first result, from its hundred nearest. -/
theorem reference_weights (x0 : FVec Ideal S16x50x128 .f32) (x1 : FVec Ideal S100000x128 .f32) :
    val_main_v30 (F := Ideal) x0 x1 = weights (val_main_values (F := Ideal) x0 x1) := rfl

open Cert.ReferenceIdeal.Read in
/-- The reference's second result, from its hundred nearest. -/
theorem reference_rows (x0 : FVec Ideal S16x50x128 .f32) (x1 : FVec Ideal S100000x128 .f32) :
    val_main_v31 (F := Ideal) x0 x1 = rowsAt (val_main_indices (F := Ideal) x0 x1) x1 := rfl

/-! ## The kernel -/

section Host

variable (σ : Valuation τ sig (Elt Ideal))

/-- The kernel's first result after its last host operations, from what they find in the distances. -/
theorem host_weights :
    StableHlo.after (List.flatten [hostOps1, hostOps1_1, hostOps1_2]) σ (Proc.devRef .tc main_v25)
      = weights (nearest (σ (Proc.devRef .tc main_v9))).1 := by
  simp only [hostOps1, hostOps1_1, hostOps1_2, List.flatten_cons, List.flatten_nil, List.append_nil, List.cons_append,
    List.nil_append, StableHlo.TRef.binary, StableHlo.TRef.nullary, StableHlo.TRef.ternary, StableHlo.TRef.unary,
    StableHlo.TRef.toBuf, StableHlo.TRef.ofBuf, cast_eq]
  after_results_simp
  all_goals rfl

/-- The kernel's second result after its last host operations, from what they find in the distances and the targets. -/
theorem host_rows :
    StableHlo.after (List.flatten [hostOps1, hostOps1_1, hostOps1_2]) σ (Proc.devRef .tc main_v26)
      = rowsAt (nearest (σ (Proc.devRef .tc main_v9))).2 (σ (Proc.devRef .tc main_arg1)) := by
  simp only [hostOps1, hostOps1_1, hostOps1_2, List.flatten_cons, List.flatten_nil, List.append_nil, List.cons_append,
    List.nil_append, StableHlo.TRef.binary, StableHlo.TRef.nullary, StableHlo.TRef.ternary, StableHlo.TRef.unary,
    StableHlo.TRef.toBuf, StableHlo.TRef.ofBuf, cast_eq]
  after_results_simp
  all_goals rfl

end Host

end Cert.KernelIdeal.Nearest

end
-- ==== Proof.Within.lean ====
/-
  The precondition, and what it gives: the padding never enters the hundred nearest.

  The precondition says that no distance exceeds the large number written beside the padded targets. A column of padding
  then never lies nearer than a target, so the hundred nearest of the padded array are those of the array without padding.
-/
module

public import proofs.«01_k».proof.Defs
public import proofs.«01_k».proof.Proof.Columns
public import proofs.«01_k».proof.Proof.TopKTail
public import proofs.«01_k».proof.Proof.Tail

@[expose] public section

noncomputable section

namespace Cert.Pre_distances_within_padding

/-- The shape relations the precondition states. -/
instance shapes : Cert.Pre_distances_within_padding.Facts where
  shapeCasts_S16x50x128_S800x128 := by decide
  reducesTo_S800x128_S800_d1 := by decide
  h_S_ := by decide
  bcast_S800_S800x1_0 := by decide
  reducesTo_S100000x128_S100000_d1 := by decide
  bcast_S100000_S1x100000_1 := by decide
  bcast_S800x1_S800x100000_0_1 := by decide
  bcast_S1x100000_S800x100000_0_1 := by decide
  transposes_S100000x128_S128x100000_1_0 := by decide
  bcast_S_S800x100000 := by decide
  dot_S800x128_S128x100000_S800x100000_1_0_0_1_n_n_wf := by decide

end Cert.Pre_distances_within_padding

namespace Cert.KernelIdeal.Nearest

open Idealize.ShloMosaic hiding ix1 ix2
open Cert.KernelIdeal Cert.KernelIdeal.Gen Idealize.SL.Sem
open Idealize.ShloMosaic.ValueIdx
open Cert.ReferenceIdeal.Read

variable (x0 : FVec Ideal S16x50x128 .f32) (x1 : FVec Ideal S100000x128 .f32)

/-- The precondition's comparison, read at a query and a target. -/
theorem within (h : Cert.Pre_distances_within_padding.fn (F := Ideal) x0 x1 = fun _ => 1#1) (r : Fin 800)
    (c : Fin 100000) : val_main_v14 (F := Ideal) x0 x1 (ix2 r c) ≤ large := by
  have e : Ideal.cmp .ole (val_main_v14 (F := Ideal) x0 x1 (ix2 r c)) large = 1#1 := congrFun h (ix2 r c)
  by_contra hn
  have e' : Ideal.cmp .ole (val_main_v14 (F := Ideal) x0 x1 (ix2 r c)) large = 0#1 := by
    simp only [Ideal.cmp, hn, decide_false]
    rfl
  rw [e'] at e
  exact absurd e (by decide)

/-- The hundred nearest of the kernel's padded array are the reference's. -/
theorem nearest_eq (h : Cert.Pre_distances_within_padding.fn (F := Ideal) x0 x1 = fun _ => 1#1) :
    nearest (distances x0 x1) = (val_main_values (F := Ideal) x0 x1, val_main_indices (F := Ideal) x0 x1) := by
  refine Cert.Nearest.topK_tail (N := 100352) (n := 100000) (FloatOps.cmpfTotal (F := Ideal) (φ := .f32) .gt)
    (Host.negf (distances x0 x1)) (val_main_v15 (F := Ideal) x0 x1) (by decide) (by decide) _
    Cert.ReferenceIdeal.Gen.sliceFits_S800x100000_S800x100 (fun r c => ?_)
    (fun r c b hb => ?_)
  · show -(distances x0 x1 (ix2 r (c.castLE (by decide) : Fin 100352))) = -(val_main_v14 (F := Ideal) x0 x1 (ix2 r c))
    rw [distances_inside]
  · show Ideal.cmp .ogt (-(distances x0 x1 (ix2 r b))) (-(val_main_v14 (F := Ideal) x0 x1 (ix2 r c))) ≠ 1#1
    have hle : val_main_v14 (F := Ideal) x0 x1 (ix2 r c) ≤ distances x0 x1 (ix2 r b) :=
      (within x0 x1 h r c).trans (distances_outside x0 x1 r b hb)
    have hn : ¬ -(val_main_v14 (F := Ideal) x0 x1 (ix2 r c)) < -(distances x0 x1 (ix2 r b)) :=
      not_lt.mpr (EReal.neg_le_neg_iff.mpr hle)
    simp only [Ideal.cmp, hn, decide_false]
    decide

end Cert.KernelIdeal.Nearest

end
-- ==== Proof.Claims.lean ====
/-
  The claims: the idealized kernel's two results are the reference's, and the reference runs and leaves its arguments.
-/
module

public import proofs.«01_k».proof.Proof.Within
public import proofs.«01_k».proof.Proof.Gen.ReferenceIdeal.Run
public import Idealize.ShloMosaic.Lib.Claim
public import Idealize.ShloMosaic.Lib.Pipeline.ValueKit

@[expose] public section

noncomputable section

namespace Cert.KernelIdeal.Nearest

open Cert.KernelIdeal Cert.KernelIdeal.Gen Idealize.ShloMosaic Idealize.ShloMosaic.TcCoe Idealize.SL.Sem

variable (m : (ℓ : Loc nD τ sig) → Buf (Elt Ideal) ℓ)

/-- The distances the last host operations find. -/
theorem found_distances (c : Dev nD) :
    Pipeline.withArrays (cfgs 0).spec c (V0 m c) (fun w => (dats m 0 c).arrAt w (cfgs 0).N) (Proc.devRef .tc main_v9)
      = distances (m ((c : Thread nD τ).loc main_arg0)) (m ((c : Thread nD τ).loc main_arg1)) := by
  refine (Pipeline.withArrays_arr spec0 (by decide) c (V0 m c) (fun w => (dats m 0 c).arrAt w cfg0.N) 4).trans ?_
  refine (region_result m c).trans ?_
  rw [entry_queries, entry_targets, entry_querySquares, entry_targetSquares]
  rfl

/-- The targets the last host operations find. -/
theorem found_targets (c : Dev nD) :
    Pipeline.withArrays (cfgs 0).spec c (V0 m c) (fun w => (dats m 0 c).arrAt w (cfgs 0).N) (Proc.devRef .tc main_arg1)
      = m ((c : Thread nD τ).loc main_arg1) :=
  (Pipeline.withArrays_of_ne _ c (V0 m c) _ main_arg1
    (by exact (by decide : ∀ w, Pipeline.arrRef spec0 w ≠ main_arg1))).trans (V_main_arg1 m c)

/-- The kernel's first result. -/
theorem kernel_weights (c : Dev nD)
    (h : Cert.Pre_distances_within_padding.fn (F := Ideal) (m ((c : Thread nD τ).loc main_arg0))
      (m ((c : Thread nD τ).loc main_arg1)) = fun _ => 1#1) :
    Pipeline.afterTail₀ cfgs (dats m) 0 (V0 m) [hostOps1, hostOps1_1, hostOps1_2] c main_v25
      = Cert.ReferenceIdeal.Read.val_main_v30 (F := Ideal) (m ((c : Thread nD τ).loc main_arg0))
          (m ((c : Thread nD τ).loc main_arg1)) := by
  unfold Pipeline.afterTail₀
  rw [host_weights, found_distances, nearest_eq _ _ h, reference_weights]

/-- The kernel's second result. -/
theorem kernel_rows (c : Dev nD)
    (h : Cert.Pre_distances_within_padding.fn (F := Ideal) (m ((c : Thread nD τ).loc main_arg0))
      (m ((c : Thread nD τ).loc main_arg1)) = fun _ => 1#1) :
    Pipeline.afterTail₀ cfgs (dats m) 0 (V0 m) [hostOps1, hostOps1_1, hostOps1_2] c main_v26
      = Cert.ReferenceIdeal.Read.val_main_v31 (F := Ideal) (m ((c : Thread nD τ).loc main_arg0))
          (m ((c : Thread nD τ).loc main_arg1)) := by
  unfold Pipeline.afterTail₀
  rw [host_rows, found_distances, found_targets, nearest_eq _ _ h, reference_rows]

end Cert.KernelIdeal.Nearest

namespace Cert.Proof

open Idealize.ShloMosaic Idealize.ShloMosaic.TcCoe Idealize.SL.Sem

/-- The idealized kernel and the reference end with equal results. -/
theorem algebraic : Cert.algebraic_KernelIdeal_ReferenceIdeal_pre_distances_within_padding := by
  intro m g m' g' hpre hagree
  refine ⟨fun c => Cert.ReferenceIdeal.Read.val_main_v30 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => Cert.ReferenceIdeal.Read.val_main_v31 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine θ_run_mono (θ_run_and (Cert.KernelIdeal.Gen.run_main (F := Ideal) m g)
      (Cert.KernelIdeal.Gen.unchanged (F := Ideal) m g)) fun r hr c => ⟨?_, ?_, (hr.2 c).1, (hr.2 c).2⟩
    · exact ((hr.1 c).2 Cert.KernelIdeal.main_v25
        (Pipeline.mem_restRefs_of Cert.KernelIdeal.main_v25 (by decide) (by decide))).trans
        (Cert.KernelIdeal.Nearest.kernel_weights m c (hpre c))
    · exact ((hr.1 c).2 Cert.KernelIdeal.main_v26
        (Pipeline.mem_restRefs_of Cert.KernelIdeal.main_v26 (by decide) (by decide))).trans
        (Cert.KernelIdeal.Nearest.kernel_rows m c (hpre c))
  · refine θ_run_mono (Cert.ReferenceIdeal.Value.run (F := Ideal) m' g') fun r hr c =>
      ⟨(hr c).1.trans ?_, (hr c).2.1.trans ?_, (hr c).2.2⟩
    · rw [Cert.ReferenceIdeal.Read.val_main_v30_eq, (hagree c).1, (hagree c).2]
    · rw [Cert.ReferenceIdeal.Read.val_main_v31_eq, (hagree c).1, (hagree c).2]

/-- The reference runs, leaves its arguments as they were and declares no semaphore. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
        ∧ r.2.sem = fun _ => 0) :=
  θ_run_mono (Cert.ReferenceIdeal.Value.run (F := Ideal) m g) fun r h =>
    ⟨fun c => (h c).2.2, sem_eq_zero_of_no_sems (by decide) r.2⟩

end Cert.Proof

end
-- ==== Proof.lean ====
/-
  The certificate's claims, put together: the kernel and its idealization run and leave their arguments as they were, the
  reference too, the idealization replaces nothing, and the two results of the idealized kernel are the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Claims
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Pre_distances_within_padding.shapes,
  fun m g _ => Cert.Kernel.Gen.frame m g,
  fun m g _ => Cert.KernelIdeal.Gen.frame m g,
  fun m g _ => Cert.KernelIdeal.Gen.frame m g,
  fun m g _ => reference_frame m g,
  fun m g _ => reference_frame m g,
  trivial,
  algebraic⟩

end Cert.Proof

end
